-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S100000x128 : Shape := ⟨2, ![100000, 128]⟩
abbrev S100000 : Shape := ⟨1, ![100000]⟩
abbrev S128x1 : Shape := ⟨2, ![128, 1]⟩
abbrev S128x128 : Shape := ⟨2, ![128, 128]⟩
abbrev S128 : Shape := ⟨1, ![128]⟩
abbrev S_ : Shape := ⟨0, ![]⟩
abbrev S100000x64 : Shape := ⟨2, ![100000, 64]⟩
abbrev S100000x1 : Shape := ⟨2, ![100000, 1]⟩
abbrev S64 : Shape := ⟨1, ![64]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  reducesTo_S100000x64_S64_d0 : S100000x64.ReducesTo [0] S64
  reducesTo_S64_S_d0 : S64.ReducesTo [0] S_

variable [Facts]

def fn_part1 {F : FTy → Type} [FloatOps F] (main_arg1 : IVec S100000 32) (main_v13 : IVec S_ 1) (main_v15 : IVec S100000 1) (main_c_5 : IVec S_ 32) : IVec S_ 1 :=
  let main_v16 : IVec S100000 32 := broadcastInDim S100000 ![] bcast_S_S100000 main_c_5
  let main_v17 : IVec S100000 1 := cmpi .slt main_arg1 main_v16
  let main_v18 : IVec S100000 1 := andi main_v15 main_v17
  let main_c_6 : IVec S_ 1 := constantI S_ 1 1#1
  let main_v19 : IVec S_ 1 := (fun x v => Host.reduce IntOp.andi x v reducesTo_S100000_S_d0 h_S_) main_v18 main_c_6
  let main_v20 : IVec S100000x64 32 := iotaInDim S100000x64 32 1
  let main_v21 : IVec S100000x1 32 := broadcastInDim S100000x1 ![0] bcast_S100000_S100000x1_0 main_arg1
  let main_v22 : IVec S100000x64 32 := broadcastInDim S100000x64 ![0, 1] bcast_S100000x1_S100000x64_0_1 main_v21
  let main_v23 : IVec S100000x64 1 := cmpi .eq main_v22 main_v20
  let main_c_7 : IVec S_ 1 := constantI S_ 1 0#1
  let main_v24 : IVec S64 1 := (fun x v => Host.reduce IntOp.ori x v reducesTo_S100000x64_S64_d0 h_S_) main_v23 main_c_7
  let main_c_8 : IVec S_ 1 := constantI S_ 1 1#1
  let main_v25 : IVec S_ 1 := (fun x v => Host.reduce IntOp.andi x v reducesTo_S64_S_d0 h_S_) main_v24 main_c_8
  let main_v26 : IVec S_ 1 := andi main_v13 main_v19
  let main_v27 : IVec S_ 1 := andi main_v26 main_v25
  main_v27

def fn {F : FTy → Type} [FloatOps F] (main_arg0 : FVec F S100000x128 .f32) (main_arg1 : IVec S100000 32) (main_arg2 : FVec F S128x1 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg1 main_v14
  let main_c_5 : IVec S_ 32 := constantI S_ 32 64#32
  fn_part1 (F := F) main_arg1 main_v13 main_v15 main_c_5
-- ==== Kernel.lean ====
abbrev S100000x128 : Shape := ⟨2, ![100000, 128]⟩
abbrev S100000 : Shape := ⟨1, ![100000]⟩
abbrev S128x1 : Shape := ⟨2, ![128, 1]⟩
abbrev S128x128 : Shape := ⟨2, ![128, 128]⟩
abbrev S128 : Shape := ⟨1, ![128]⟩
abbrev S4x1x25000 : Shape := ⟨3, ![4, 1, 25000]⟩
abbrev S1x128 : Shape := ⟨2, ![1, 128]⟩
abbrev S64x128 : Shape := ⟨2, ![64, 128]⟩
abbrev S1x1x25000 : Shape := ⟨3, ![1, 1, 25000]⟩
abbrev S25000x128 : Shape := ⟨2, ![25000, 128]⟩
abbrev S64x1 : Shape := ⟨2, ![64, 1]⟩
abbrev S25000 : Shape := ⟨1, ![25000]⟩
abbrev S1x25000 : Shape := ⟨2, ![1, 25000]⟩
abbrev S1 : Shape := ⟨1, ![1]⟩
abbrev S1x1x1 : Shape := ⟨3, ![1, 1, 1]⟩
abbrev S64x25000 : Shape := ⟨2, ![64, 25000]⟩
abbrev S64 : Shape := ⟨1, ![64]⟩

abbrev nBuf : Space → Nat
  | .hbm => 10
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S128x128, .f32⟩
  | .hbm, ⟨4, _⟩ => ⟨S128, .f32⟩
  | .hbm, ⟨5, _⟩ => ⟨S4x1x25000, .i32⟩
  | .hbm, ⟨6, _⟩ => ⟨S1x128, .f32⟩
  | .hbm, ⟨7, _⟩ => ⟨S1x128, .bf16⟩
  | .hbm, ⟨8, _⟩ => ⟨S1x128, .f32⟩
  | .hbm, ⟨9, _⟩ => ⟨S64x128, .f32⟩
  | .local _ .vmem, ⟨0, _⟩ => ⟨S1x1x25000, .i32⟩
  | .local _ .vmem, ⟨1, _⟩ => ⟨S1x1x25000, .i32⟩
  | .local _ .vmem, ⟨2, _⟩ => ⟨S25000x128, .f32⟩
  | .local _ .vmem, ⟨3, _⟩ => ⟨S25000x128, .f32⟩
  | .local _ .vmem, ⟨4, _⟩ => ⟨S1x128, .bf16⟩
  | .local _ .vmem, ⟨5, _⟩ => ⟨S128x128, .f32⟩
  | .local _ .vmem, ⟨6, _⟩ => ⟨S1x128, .f32⟩
  | .local _ .vmem, ⟨7, _⟩ => ⟨S64x128, .f32⟩
  | .local _ .vmem, ⟨8, _⟩ => ⟨S64x1, .f32⟩
  | .local _ .vmem, ⟨9, _⟩ => ⟨S64x1, .f32⟩
  | .local _ .vmem, ⟨10, _⟩ => ⟨S64x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v68 : BitVec 1 := Scalar.cmpi .eq arg0 c3_i32
  let v69 : BitVec 32 := Scalar.extui v68
  let c0_i32_28 : BitVec 32 := 0#32
  let v70 : BitVec 1 := Scalar.cmpi .ne v69 c0_i32_28
  v70

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x25000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S100000x128 : Shape := ⟨2, ![100000, 128]⟩
abbrev S100000 : Shape := ⟨1, ![100000]⟩
abbrev S128x1 : Shape := ⟨2, ![128, 1]⟩
abbrev S128x128 : Shape := ⟨2, ![128, 128]⟩
abbrev S128 : Shape := ⟨1, ![128]⟩
abbrev S100000x1 : Shape := ⟨2, ![100000, 1]⟩
abbrev S1x128 : Shape := ⟨2, ![1, 128]⟩
abbrev S64 : Shape := ⟨1, ![64]⟩
abbrev S1x64 : Shape := ⟨2, ![1, 64]⟩
abbrev S100000x64 : Shape := ⟨2, ![100000, 64]⟩
abbrev S_ : Shape := ⟨0, ![]⟩
abbrev S64x1 : Shape := ⟨2, ![64, 1]⟩
abbrev S64x128 : Shape := ⟨2, ![64, 128]⟩

abbrev nBuf : Space → Nat
  | .hbm => 55
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S128x1, .f32⟩
  | .hbm, ⟨3, _⟩ => ⟨S128x128, .f32⟩
  | .hbm, ⟨4, _⟩ => ⟨S128, .f32⟩
  | .hbm, ⟨5, _⟩ => ⟨S100000x1, .f32⟩
  | .hbm, ⟨6, _⟩ => ⟨S100000x128, .f32⟩
  | .hbm, ⟨7, _⟩ => ⟨S1x128, .f32⟩
  | .hbm, ⟨8, _⟩ => ⟨S100000x128, .f32⟩
  | .hbm, ⟨9, _⟩ => ⟨S100000x128, .f32⟩
  | .hbm, ⟨10, _⟩ => ⟨S100000x1, .i32⟩
  | .hbm, ⟨11, _⟩ => ⟨S64, .i32⟩
  | .hbm, ⟨12, _⟩ => ⟨S1x64, .i32⟩
  | .hbm, ⟨13, _⟩ => ⟨S100000x64, .i32⟩
  | .hbm, ⟨14, _⟩ => ⟨S100000x64, .i32⟩
  | .hbm, ⟨15, _⟩ => ⟨S100000x64, .i1⟩
  | .hbm, ⟨16, _⟩ => ⟨S_, .f32⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S100000x64, .f32⟩
  | .hbm, ⟨21, _⟩ => ⟨S_, .f32⟩
  | .hbm, ⟨22, _⟩ => ⟨S64, .f32⟩
  | .hbm, ⟨23, _⟩ => ⟨S64x1, .f32⟩
  | .hbm, ⟨24, _⟩ => ⟨S_, .i32⟩
  | .hbm, ⟨25, _⟩ => ⟨S100000, .i32⟩
  | .hbm, ⟨26, _⟩ => ⟨S100000, .i1⟩
  | .hbm, ⟨27, _⟩ => ⟨S_, .i32⟩
  | .hbm, ⟨28, _⟩ => ⟨S100000, .i32⟩
  | .hbm, ⟨29, _⟩ => ⟨S100000, .i32⟩
  | .hbm, ⟨30, _⟩ => ⟨S100000, .i32⟩
  | .hbm, ⟨31, _⟩ => ⟨S100000x1, .i32⟩
  | .hbm, ⟨32, _⟩ => ⟨S100000x1, .f32⟩
  | .hbm, ⟨33, _⟩ => ⟨S100000x1, .f32⟩
  | .hbm, ⟨34, _⟩ => ⟨S100000x1, .f32⟩
  | .hbm, ⟨35, _⟩ => ⟨S_, .f32⟩
  | .hbm, ⟨36, _⟩ => ⟨S64x1, .f32⟩
  | .hbm, ⟨37, _⟩ => ⟨S100000x1, .i32⟩
  | .hbm, ⟨38, _⟩ => ⟨S64x1, .f32⟩
  | .hbm, ⟨39, _⟩ => ⟨S_, .i32⟩
  | .hbm, ⟨40, _⟩ => ⟨S100000, .i32⟩
  | .hbm, ⟨41, _⟩ => ⟨S100000, .i1⟩
  | .hbm, ⟨42, _⟩ => ⟨S_, .i32⟩
  | .hbm, ⟨43, _⟩ => ⟨S100000, .i32⟩
  | .hbm, ⟨44, _⟩ => ⟨S100000, .i32⟩
  | .hbm, ⟨45, _⟩ => ⟨S100000, .i32⟩
  | .hbm, ⟨46, _⟩ => ⟨S100000x1, .i32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S64x128, .f32⟩
  | .hbm, ⟨53, _⟩ => ⟨S100000x1, .i32⟩
  | .hbm, ⟨54, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Proof.Math.lean ====
/- The mathematics of the pooling, free of any program: softmax-weighted sums over a finite set of nodes, kept with a
   running maximum that is raised block by block, and the value they end at. -/
module

public import Idealize.ShloMosaic.PureOps.Ideal.Laws

@[expose] public section

noncomputable section

open scoped BigOperators

namespace Cert.Pool

open Idealize.ShloMosaic

variable {ι δ : Type} [DecidableEq ι]

/-- The total softmax weight of the nodes `S` with gates `g`, measured from the level `M`. -/
def mass (S : Finset ι) (g : ι → ℝ) (M : ℝ) : ℝ := ∑ n ∈ S, Real.exp (g n - M)

/-- The sum of a feature `f` over the nodes `S`, each node at its softmax weight measured from the level `M`. -/
def moment (S : Finset ι) (g f : ι → ℝ) (M : ℝ) : ℝ := ∑ n ∈ S, Real.exp (g n - M) * f n

/-- Measuring the weights from another level multiplies the total weight by one factor. -/
theorem mass_shift (S : Finset ι) (g : ι → ℝ) (M M' : ℝ) : mass S g M * Real.exp (M - M') = mass S g M' := by
  unfold mass
  rw [Finset.sum_mul]
  exact Finset.sum_congr rfl fun n _ => by rw [← Real.exp_add]; congr 1; ring

/-- Measuring the weights from another level multiplies the weighted sum by the same factor. -/
theorem moment_shift (S : Finset ι) (g f : ι → ℝ) (M M' : ℝ) :
    moment S g f M * Real.exp (M - M') = moment S g f M' := by
  unfold moment
  rw [Finset.sum_mul]
  exact Finset.sum_congr rfl fun n _ => by rw [mul_right_comm, ← Real.exp_add]; congr 2; ring

/-- The total weight of two disjoint sets is the sum of theirs. -/
theorem mass_union {S T : Finset ι} (h : Disjoint S T) (g : ι → ℝ) (M : ℝ) :
    mass (S ∪ T) g M = mass S g M + mass T g M := Finset.sum_union h

/-- The weighted sum over two disjoint sets is the sum of theirs. -/
theorem moment_union {S T : Finset ι} (h : Disjoint S T) (g f : ι → ℝ) (M : ℝ) :
    moment (S ∪ T) g f M = moment S g f M + moment T g f M := Finset.sum_union h

/-- The total weight of a set that has a node is positive. -/
theorem mass_pos {S : Finset ι} (h : S.Nonempty) (g : ι → ℝ) (M : ℝ) : 0 < mass S g M :=
  Finset.sum_pos (fun _ _ => Real.exp_pos _) h

theorem mass_empty (g : ι → ℝ) (M : ℝ) : mass (∅ : Finset ι) g M = 0 := Finset.sum_empty

theorem moment_empty (g f : ι → ℝ) (M : ℝ) : moment (∅ : Finset ι) g f M = 0 := Finset.sum_empty

/-- What a running maximum `m`, total weight `s` and weighted sums `v` (one per feature) say of the nodes `S` gathered
    so far: with no node yet they are `-∞`, `0` and `0`; otherwise the maximum is some real level, and the weight and the
    sums are those of `S` measured from it. -/
def Gathered (S : Finset ι) (g : ι → ℝ) (f : ι → δ → ℝ) (m s : EReal) (v : δ → EReal) : Prop :=
  (S = ∅ ∧ m = ⊥ ∧ s = 0 ∧ ∀ d, v d = 0) ∨
    (S.Nonempty ∧ ∃ M : ℝ, m = (M : EReal) ∧ s = (mass S g M : EReal) ∧ ∀ d, v d = (moment S g (f · d) M : EReal))

/-- The maximum after a block of level `mb` and weight `sb`: raised to `mb` if the block holds a node. -/
def newMax (m mb sb : EReal) : EReal := max m (if 0 < sb then mb else ⊥)

/-- The factor by which the sums gathered so far are brought to the new maximum. -/
def oldScale (m mb sb : EReal) : EReal := if m = ⊥ then 0 else Ideal.exp (m - newMax m mb sb)

/-- The factor by which the block's sums are brought to the new maximum. -/
def blockScale (m mb sb : EReal) : EReal := if 0 < sb then Ideal.exp (mb - newMax m mb sb) else 0

/-- Adding a block `T` of further nodes, its sums measured from its own level `mb`, keeps `Gathered`: of `S ∪ T`. -/
theorem gathered_step {S T : Finset ι} (hd : Disjoint S T) {g : ι → ℝ} {f : ι → δ → ℝ} {m s sb : EReal} {v vb : δ → EReal}
    (h : Gathered S g f m s v) (mb : ℝ) (hs : sb = (mass T g mb : EReal)) (hv : ∀ d, vb d = (moment T g (f · d) mb : EReal)) :
    Gathered (S ∪ T) g f (newMax m mb sb) (s * oldScale m mb sb + sb * blockScale m mb sb)
      (fun d => v d * oldScale m mb sb + vb d * blockScale m mb sb) := by
  subst hs
  rcases T.eq_empty_or_nonempty with rfl | hT
  · -- the block holds none of the graph's nodes: nothing changes
    have h0 : ¬ (0 : EReal) < ((mass (∅ : Finset ι) g mb : ℝ) : EReal) := by rw [mass_empty]; simp
    have hb : ∀ d, vb d = 0 := fun d => by rw [hv d, moment_empty]; rfl
    have hmax : newMax m mb ((mass (∅ : Finset ι) g mb : ℝ) : EReal) = m := by
      unfold newMax; rw [if_neg h0]; exact max_eq_left bot_le
    have hblk : blockScale m mb ((mass (∅ : Finset ι) g mb : ℝ) : EReal) = 0 := if_neg h0
    rw [hmax, hblk, Finset.union_empty]
    unfold oldScale
    rw [hmax]
    rcases h with ⟨rfl, rfl, rfl, hv0⟩ | ⟨hS, M, rfl, rfl, hvM⟩
    · exact Or.inl ⟨rfl, rfl, by simp, fun d => by simp [hv0 d]⟩
    · refine Or.inr ⟨hS, M, rfl, ?_, fun d => ?_⟩
      · rw [if_neg (EReal.coe_ne_bot M), ← EReal.coe_sub, sub_self, Ideal.exp_coe, Real.exp_zero]; simp
      · beta_reduce
        rw [if_neg (EReal.coe_ne_bot M), ← EReal.coe_sub, sub_self, Ideal.exp_coe, Real.exp_zero, hvM d]; simp
  · have h1 : (0 : EReal) < ((mass T g mb : ℝ) : EReal) := EReal.coe_pos.mpr (mass_pos hT g mb)
    rcases h with ⟨rfl, rfl, rfl, hv0⟩ | ⟨hS, M, rfl, rfl, hvM⟩
    · -- the graph's first nodes
      have hmax : newMax ⊥ mb ((mass T g mb : ℝ) : EReal) = mb := by
        unfold newMax; rw [if_pos h1]; exact max_eq_right bot_le
      have hblk : blockScale ⊥ mb ((mass T g mb : ℝ) : EReal) = 1 := by
        unfold blockScale
        rw [if_pos h1, hmax, ← EReal.coe_sub, sub_self, Ideal.exp_coe, Real.exp_zero]; rfl
      rw [hmax, hblk, Finset.empty_union]
      exact Or.inr ⟨hT, mb, rfl, by simp, fun d => by simp [hv0 d, hv d]⟩
    · -- both hold nodes: both sums are brought to the larger level
      have hmax : newMax M mb ((mass T g mb : ℝ) : EReal) = ((max M mb : ℝ) : EReal) := by
        unfold newMax; rw [if_pos h1]; exact (EReal.coe_strictMono.monotone.map_max).symm
      have hold : oldScale M mb ((mass T g mb : ℝ) : EReal) = (Real.exp (M - max M mb) : EReal) := by
        unfold oldScale
        rw [if_neg (EReal.coe_ne_bot M), hmax, ← EReal.coe_sub, Ideal.exp_coe]
      have hblk : blockScale M mb ((mass T g mb : ℝ) : EReal) = (Real.exp (mb - max M mb) : EReal) := by
        unfold blockScale
        rw [if_pos h1, hmax, ← EReal.coe_sub, Ideal.exp_coe]
      rw [hmax, hold, hblk]
      refine Or.inr ⟨hS.mono Finset.subset_union_left, max M mb, rfl, ?_, fun d => ?_⟩
      · rw [mass_union hd, ← mass_shift S g M (max M mb), ← mass_shift T g mb (max M mb)]; norm_cast
      · beta_reduce
        rw [moment_union hd, ← moment_shift S g _ M (max M mb), ← moment_shift T g _ mb (max M mb), hvM d, hv d]; norm_cast

/-- A sum of reals, seen in the extended reals. -/
theorem coe_sum {κ : Type} (S : Finset κ) (x : κ → ℝ) : ((∑ k ∈ S, x k : ℝ) : EReal) = ∑ k ∈ S, (x k : EReal) := by
  classical
  induction S using Finset.induction_on with
  | empty => simp
  | insert a S ha ih => rw [Finset.sum_insert ha, Finset.sum_insert ha, EReal.coe_add, ih]

/-- A sum over a set that has an element, all of whose terms are the same infinity, is that infinity. -/
theorem sum_top {κ : Type} {S : Finset κ} (h : S.Nonempty) : ∑ _k ∈ S, (⊤ : EReal) = ⊤ := by
  classical
  induction h using Finset.Nonempty.cons_induction with
  | singleton a => simp
  | cons a s ha hs ih => rw [Finset.sum_cons, ih]; rfl

theorem sum_bot {κ : Type} {S : Finset κ} (h : S.Nonempty) : ∑ _k ∈ S, (⊥ : EReal) = ⊥ := by
  classical
  induction h using Finset.Nonempty.cons_induction with
  | singleton a => simp
  | cons a s ha hs ih => rw [Finset.sum_cons, ih]; rfl

/-- A quotient of reals by a positive real, seen in the extended reals. -/
theorem div_coe_pos (x y : ℝ) (hy : 0 < y) : Ideal.div (x : EReal) (y : EReal) = ((x / y : ℝ) : EReal) := by
  unfold Ideal.div
  rw [if_neg (by exact_mod_cast hy.ne'), ← EReal.coe_inv, ← EReal.coe_mul, div_eq_mul_inv]

/-- THE EQUATION. Pooling the features first and transforming the pooled row is transforming every node's row and
    pooling the results: the sums gathered over a set `S` that has a node, divided by their weight, times a column `w` of
    the transformation, plus the bias `b`, is the sum over `S` of the transformed rows, bias included, each at its softmax
    weight measured from any level `L`. The bias may be infinite: the weights are positive and `S` has a node. -/
theorem pooled_eq [Fintype δ] {S : Finset ι} (hS : S.Nonempty) {g : ι → ℝ} {f : ι → δ → ℝ} {m s : EReal} {v : δ → EReal}
    (h : Gathered S g f m s v) (w : δ → ℝ) (b : EReal) (L : ℝ) :
    (∑ d, Ideal.div (v d) s * (w d : EReal)) + b
      = ∑ n ∈ S, (((∑ d, f n d * w d : ℝ) : EReal) + b) * Ideal.div (Real.exp (g n - L) : EReal) (mass S g L : EReal) := by
  rcases h with ⟨rfl, -⟩ | ⟨-, M, -, rfl, hv⟩
  · exact absurd hS Finset.not_nonempty_empty
  have hM := mass_pos hS g M
  have hL := mass_pos hS g L
  have hl : (∑ d, Ideal.div (v d) (mass S g M : EReal) * (w d : EReal))
      = ((∑ n ∈ S, (∑ d, f n d * w d) * (Real.exp (g n - L) / mass S g L) : ℝ) : EReal) := by
    have hq : ∀ d, moment S g (f · d) M / mass S g M = moment S g (f · d) L / mass S g L := fun d => by
      rw [← mass_shift S g M L, ← moment_shift S g _ M L, mul_div_mul_right _ _ (Real.exp_pos _).ne']
    have ht : ∀ d, Ideal.div (v d) (mass S g M : EReal) * (w d : EReal)
        = ((∑ n ∈ S, f n d * w d * (Real.exp (g n - L) / mass S g L) : ℝ) : EReal) := fun d => by
      rw [hv d, div_coe_pos _ _ hM, hq d, ← EReal.coe_mul]
      congr 1
      unfold moment
      rw [Finset.sum_div, Finset.sum_mul]
      exact Finset.sum_congr rfl fun n _ => by ring
    rw [Finset.sum_congr rfl fun d _ => ht d, ← coe_sum]
    congr 1
    rw [Finset.sum_comm]
    exact Finset.sum_congr rfl fun n _ => by rw [Finset.sum_mul]
  have hw : ∀ n, Ideal.div (Real.exp (g n - L) : EReal) (mass S g L : EReal)
      = ((Real.exp (g n - L) / mass S g L : ℝ) : EReal) := fun n => div_coe_pos _ _ hL
  have hwp : ∀ n, 0 < Real.exp (g n - L) / mass S g L := fun n => div_pos (Real.exp_pos _) hL
  rw [hl]
  simp only [hw]
  induction b using EReal.rec with
  | bot =>
    simp only [EReal.add_bot]
    rw [Finset.sum_congr rfl fun n _ => EReal.bot_mul_coe_of_pos (hwp n), sum_bot hS]
  | top =>
    simp only [EReal.coe_add_top]
    rw [Finset.sum_congr rfl fun n _ => EReal.top_mul_coe_of_pos (hwp n), sum_top hS]
  | coe b =>
    have hone : ∑ n ∈ S, Real.exp (g n - L) / mass S g L = 1 := by
      rw [← Finset.sum_div]; exact div_self hL.ne'
    simp only [← EReal.coe_add, ← EReal.coe_mul]
    rw [← coe_sum]
    congr 1
    simp only [add_mul]
    rw [Finset.sum_add_distrib, ← Finset.mul_sum, hone, mul_one]

end Cert.Pool

end
-- ==== Proof.Block.lean ====
/- What one grid point computes: from the block's node rows, its graph numbers and the gate row, each graph's level,
   softmax weight and weighted feature sums over the block, and the step that adds them to what was gathered before. -/
module

public import proofs.«01_k».proof.Proof.Gen.KernelIdeal.Skeleton
public import proofs.«01_k».proof.Proof.Math
public import Idealize.ShloMosaic.Lib.Pointwise

@[expose] public section

set_option maxRecDepth 16384

noncomputable section

open scoped BigOperators

namespace Cert.KernelIdeal.Block

open Idealize.ShloMosaic Cert.KernelIdeal Cert.KernelIdeal.Gen Cert.Pool

/-- The pattern of minus infinity denotes the least extended real. -/
theorem ofBits_neg_infinity : Ideal.ofBits .f32 0xFF800000#32 = ⊥ := by
  simp [Ideal.ofBits, Ideal.ieee]

/-- The maximum, from minus infinity, of a nonempty finite family of reals is a real. -/
theorem fold_max_real {κ : Type} {S : Finset κ} (h : S.Nonempty) (x : κ → EReal) (hx : ∀ k ∈ S, ∃ r : ℝ, x k = r) :
    ∃ r : ℝ, Finset.fold max ⊥ x S = r := by
  classical
  induction h using Finset.Nonempty.cons_induction with
  | singleton a =>
    obtain ⟨r, hr⟩ := hx a (Finset.mem_singleton_self a)
    exact ⟨r, by rw [Finset.fold_singleton, hr]; exact max_eq_left bot_le⟩
  | cons a s ha hs ih =>
    obtain ⟨r, hr⟩ := hx a (Finset.mem_cons_self a s)
    obtain ⟨q, hq⟩ := ih fun k hk => hx k (Finset.mem_cons_of_mem hk)
    exact ⟨max r q, by rw [Finset.fold_cons, hr, hq]; exact (EReal.coe_strictMono.monotone.map_max).symm⟩

variable (x0 : Vec Ideal S1x1x25000 .i32) (x1 : Vec Ideal S25000x128 .f32) (x2 : Vec Ideal S1x128 .bf16)

/-- The gate of the block's node `r`: the gate row times the node's row. -/
theorem gate_at (r : Fin 25000) : k0_pay11 x1 x2 (ix2 0 r) = ∑ k : Fin 128, x2 (ix2 0 k) * x1 (ix2 r k) := by
  pointwise [k0_pay11, k0_pay10]

/-- The level the block measures its weights from is a real number when its gates are. -/
theorem level_real (h : ∀ r : Fin 25000, ∃ q : ℝ, k0_pay11 x1 x2 (ix2 0 r) = q) : ∃ L : ℝ, k0_pay12 x1 x2 = L := by
  have e : k0_pay12 x1 x2 = Finset.fold max ⊥ (fun x : Fin 1 × Fin 25000 => k0_pay11 x1 x2 (ix2 0 x.2)) Finset.univ := by
    rw [← ofBits_neg_infinity]
    pointwise [k0_pay12]
  rw [e]
  exact fold_max_real ⟨(0, 0), Finset.mem_univ _⟩ _ fun k _ => h k.2

/-- A graph number below 64, cut to sixteen bits, is the number of row `b` exactly when it is `b`. -/
theorem word_eq {x : BitVec 32} (hx : x.toNat < 64) (b : Fin 64) :
    IntOp.cmpi .eq (BitVec.ofNat 16 b.val) (BitVec.setWidth 16 x) = 1#1 ↔ x.toNat = b.val := by
  rw [IntOp.cmpi_eq]
  have hb := b.isLt
  constructor
  · intro h
    have := congrArg BitVec.toNat h
    simp only [BitVec.toNat_ofNat, BitVec.toNat_setWidth] at this
    omega
  · intro h
    apply BitVec.eq_of_toNat_eq
    simp only [BitVec.toNat_ofNat, BitVec.toNat_setWidth]
    omega

/-- Node `r`'s weight in graph `b`: `exp (gate - level)` if the node is in the graph, else zero. -/
theorem weight_at (hx : ∀ r : Fin 25000, (x0 (ix3 0 0 r)).toNat < 64) (b : Fin 64) (r : Fin 25000) :
    k0_pay13 x1 x0 x2 (ix2 b r)
      = if (x0 (ix3 0 0 r)).toNat = b.val then Ideal.exp (k0_pay11 x1 x2 (ix2 0 r) - k0_pay12 x1 x2) else 0 := by
  have e : k0_pay13 x1 x0 x2 (ix2 b r)
      = Scalar.select (IntOp.cmpi .eq (BitVec.ofNat 16 b.val) (BitVec.setWidth 16 (x0 (ix3 0 0 r))))
          (Ideal.exp (k0_pay11 x1 x2 (ix2 0 r) - k0_pay12 x1 x2)) 0 := by
    pointwise [k0_pay13]
  rw [e]
  by_cases h : (x0 (ix3 0 0 r)).toNat = b.val
  · rw [if_pos h, (word_eq (hx r) b).mpr h]; rfl
  · rw [if_neg h, ValueIdx.eq_zero_of_ne_one (fun e => h ((word_eq (hx r) b).mp e))]; rfl

/-- Graph `b`'s weight over the block: the sum of its nodes' weights. -/
theorem blockMass_at (b : Fin 64) : k0_pay14 x1 x0 x2 (ix2 b 0) = ∑ r : Fin 25000, k0_pay13 x1 x0 x2 (ix2 b r) := by
  pointwise [k0_pay14]

variable (m s : Vec Ideal S64x1 .f32) (v : Vec Ideal S64x128 .f32)

/-- The maxima the step leaves. -/
def mNext : Vec Ideal S64x1 .f32 := k0_pay5 (k0_pay16 x1 x0 x2 m)

/-- The weights the step leaves. -/
def sNext : Vec Ideal S64x1 .f32 :=
  k0_pay3 (k0_pay12 x1 x2) (k0_pay14 x1 x0 x2) (k0_pay15 x1 x0 x2) (k0_pay16 x1 x0 x2 m) (k0_pay17 m) (k0_pay18 x1 x0 x2 m) s

/-- The weighted feature sums the step leaves. -/
def vNext : Vec Ideal S64x128 .f32 :=
  k0_pay4 (k0_pay10 x1) (k0_pay12 x1 x2) (k0_pay13 x1 x0 x2) (k0_pay15 x1 x0 x2) (k0_pay16 x1 x0 x2 m) (k0_pay17 m)
    (k0_pay18 x1 x0 x2 m) v

theorem max_at (b : Fin 64) :
    k0_pay16 x1 x0 x2 m (ix2 b 0) = newMax (m (ix2 b 0)) (k0_pay12 x1 x2) (k0_pay14 x1 x0 x2 (ix2 b 0)) := by
  unfold newMax
  rw [← ofBits_neg_infinity]
  pointwise [k0_pay16, k0_pay15]

theorem mNext_at (b : Fin 64) :
    mNext x0 x1 x2 m (ix2 b 0) = newMax (m (ix2 b 0)) (k0_pay12 x1 x2) (k0_pay14 x1 x0 x2 (ix2 b 0)) := by
  rw [← max_at]
  pointwise [mNext, k0_pay5]

/-- The factor the step applies to what was gathered before. -/
theorem oldScale_at (b : Fin 64) : k0_pay1 (k0_pay17 m) (k0_pay18 x1 x0 x2 m) (ix2 b 0)
    = oldScale (m (ix2 b 0)) (k0_pay12 x1 x2) (k0_pay14 x1 x0 x2 (ix2 b 0)) := by
  unfold oldScale
  rw [← ofBits_neg_infinity, ← max_at]
  pointwise [k0_pay1, k0_pay17, k0_pay18]

/-- The factor the step applies to the block's sums. -/
theorem blockScale_at (b : Fin 64) : k0_pay2 (k0_pay12 x1 x2) (k0_pay15 x1 x0 x2) (k0_pay16 x1 x0 x2 m) (ix2 b 0)
    = blockScale (m (ix2 b 0)) (k0_pay12 x1 x2) (k0_pay14 x1 x0 x2 (ix2 b 0)) := by
  unfold blockScale
  rw [← max_at]
  pointwise [k0_pay2, k0_pay15]

theorem sNext_at (b : Fin 64) : sNext x0 x1 x2 m s (ix2 b 0)
    = s (ix2 b 0) * oldScale (m (ix2 b 0)) (k0_pay12 x1 x2) (k0_pay14 x1 x0 x2 (ix2 b 0))
      + k0_pay14 x1 x0 x2 (ix2 b 0) * blockScale (m (ix2 b 0)) (k0_pay12 x1 x2) (k0_pay14 x1 x0 x2 (ix2 b 0)) := by
  rw [← oldScale_at, ← blockScale_at]
  pointwise [sNext, k0_pay3]

theorem vNext_at (b : Fin 64) (d : Fin 128) : vNext x0 x1 x2 m v (ix2 b d)
    = v (ix2 b d) * oldScale (m (ix2 b 0)) (k0_pay12 x1 x2) (k0_pay14 x1 x0 x2 (ix2 b 0))
      + (∑ r : Fin 25000, k0_pay13 x1 x0 x2 (ix2 b r) * x1 (ix2 r d))
        * blockScale (m (ix2 b 0)) (k0_pay12 x1 x2) (k0_pay14 x1 x0 x2 (ix2 b 0)) := by
  rw [← oldScale_at, ← blockScale_at]
  pointwise [vNext, k0_pay4, k0_pay10]

/-- The output block: each graph's weighted sums divided by its weight (zero where the weight is not positive), times the
    feature matrix, plus the bias row. -/
theorem out_at (x3 : Vec Ideal S128x128 .f32) (x4 : Vec Ideal S1x128 .f32) (b : Fin 64) (d : Fin 128) :
    k0_pay6 s v x3 x4 (ix2 b d)
      = (∑ k : Fin 128, (if 0 < s (ix2 b 0) then Ideal.div (v (ix2 b k)) (if 0 < s (ix2 b 0) then s (ix2 b 0) else 1) else 0)
          * x3 (ix2 k d)) + x4 (ix2 0 d) := by
  pointwise [k0_pay6]

/-- The state the first point starts from: no maximum, no weight, no sums. -/
theorem init_max_at (b : Fin 64) : k0_pay7 (F := Ideal) (ix2 b 0) = ⊥ := by
  rw [← ofBits_neg_infinity]
  pointwise [k0_pay7]

theorem init_mass_at (b : Fin 64) : k0_pay8 (F := Ideal) (ix2 b 0) = 0 := by pointwise [k0_pay8]

theorem init_sum_at (b : Fin 64) (d : Fin 128) : k0_pay9 (F := Ideal) (ix2 b d) = 0 := by pointwise [k0_pay9]

end Cert.KernelIdeal.Block

end
-- ==== Proof.Point.lean ====
/- What each grid point leaves behind, as the step of Block.lean: the first point steps from the empty state, the later
   points from what the point before left, and the last point writes the output of its own state. -/
module

public import proofs.«01_k».proof.Proof.Gen.KernelIdeal.Frame
public import proofs.«01_k».proof.Proof.Block

@[expose] public section

set_option maxRecDepth 16384

noncomputable section

namespace Cert.KernelIdeal.Point

open Idealize.ShloMosaic Idealize.SL.Sem Cert.KernelIdeal Cert.KernelIdeal.Gen Cert.KernelIdeal.Block

theorem zero2 : (![0, 0] : Fin 2 → Nat) = fun _ => 0 := funext fun a => by fin_cases a <;> rfl

theorem zero3 : (![0, 0, 0] : Fin 3 → Nat) = fun _ => 0 := funext fun a => by fin_cases a <;> rfl

variable (c : Dev nD) (i : grid0.Coords) (a1 : Memref sig .tc .vmem S1x1x25000 .i32) (h1 : a1.IsWhole)
  (a2 : Memref sig .tc .vmem S25000x128 .f32) (h2 : a2.IsWhole) (a3 : Memref sig .tc .vmem S1x128 .bf16) (h3 : a3.IsWhole)
  (a4 : Memref sig .tc .vmem S128x128 .f32) (h4 : a4.IsWhole) (a5 : Memref sig .tc .vmem S1x128 .f32) (h5 : a5.IsWhole)
  (a6 : Memref sig .tc .vmem S64x128 .f32) (h6 : a6.IsWhole) (a7 : Memref sig .tc .vmem S64x1 .f32) (h7 : a7.IsWhole)
  (a8 : Memref sig .tc .vmem S64x1 .f32) (h8 : a8.IsWhole) (a9 : Memref sig .tc .vmem S64x128 .f32) (h9 : a9.IsWhole)
  (x0 : Vec Ideal S1x1x25000 .i32) (x1 : Vec Ideal S25000x128 .f32) (x2 : Vec Ideal S1x128 .bf16)
  (x3 : Vec Ideal S128x128 .f32) (x4 : Vec Ideal S1x128 .f32)
  (m s : Vec Ideal S64x1 .f32) (v : Vec Ideal S64x128 .f32)

/-- The first point steps from the empty state: the maxima, the weights and the weighted sums it leaves. -/
theorem left_A (hc0 : cond0_0 i) (hc1 : ¬cond0_1 i) :
    sout0_A_0 c i a1 h1 a2 h2 a3 h3 a4 h4 a5 h5 a6 h6 a7 h7 a8 h8 a9 h9 hc0 hc1 x0 x1 x2 x3 x4
        = mNext x0 x1 x2 (k0_pay7 (F := Ideal))
      ∧ sout0_A_1 c i a1 h1 a2 h2 a3 h3 a4 h4 a5 h5 a6 h6 a7 h7 a8 h8 a9 h9 hc0 hc1 x0 x1 x2 x3 x4
        = sNext x0 x1 x2 (k0_pay7 (F := Ideal)) (k0_pay8 (F := Ideal))
      ∧ sout0_A_2 c i a1 h1 a2 h2 a3 h3 a4 h4 a5 h5 a6 h6 a7 h7 a8 h8 a9 h9 hc0 hc1 x0 x1 x2 x3 x4
        = vNext x0 x1 x2 (k0_pay7 (F := Ideal)) (k0_pay9 (F := Ideal)) := by
  refine ⟨(View.read_writes_eq_canon _ _ _ (scover0_A_0 c i a1 h1 a2 h2 a3 h3 a4 h4 a5 h5 a6 h6 a7 h7 a8 h8 a9 h9 hc0 hc1 x0 x1 x2 x3 x4)).trans ?_,
    (View.read_writes_eq_canon _ _ _ (scover0_A_1 c i a1 h1 a2 h2 a3 h3 a4 h4 a5 h5 a6 h6 a7 h7 a8 h8 a9 h9 hc0 hc1 x0 x1 x2 x3 x4)).trans ?_,
    (View.read_writes_eq_canon _ _ _ (scover0_A_2 c i a1 h1 a2 h2 a3 h3 a4 h4 a5 h5 a6 h6 a7 h7 a8 h8 a9 h9 hc0 hc1 x0 x1 x2 x3 x4)).trans ?_⟩
  all_goals unfold kernelRun0_A
  all_goals dsimp only
  all_goals sl_unfold_words
  all_goals rw [View.canon_cons_unit_zero zero2]
  all_goals try unfold mNext
  all_goals try unfold sNext
  all_goals try unfold vNext
  all_goals
    simp only [View.readAt_eq_ld, h1.read_unread, h2.read_unread, h3.read_unread, h4.read_unread, h5.read_unread,
      h7.read_unread, h8.read_unread, h9.read_unread, View.ld_unit_zero (S := S1x1x25000) zero3,
      View.ld_unit_zero (S := S25000x128) zero2, View.ld_unit_zero (S := S1x128) zero2,
      View.ld_unit_zero (S := S128x128) zero2, View.ld_unit_zero (S := S64x1) zero2, View.ld_unit_zero (S := S64x128) zero2,
      View.readCov_unit_zero (S := S64x1) _ zero2, View.readCov_unit_zero (S := S64x128) _ zero2]

/-- A middle point steps from what the point before left. -/
theorem left_B (hc0 : ¬cond0_0 i) (hc1 : ¬cond0_1 i) :
    sout0_B_0 c i a1 h1 a2 h2 a3 h3 a4 h4 a5 h5 a6 h6 a7 h7 a8 h8 a9 h9 hc0 hc1 x0 x1 x2 x3 x4 m s v
        = mNext x0 x1 x2 m
      ∧ sout0_B_1 c i a1 h1 a2 h2 a3 h3 a4 h4 a5 h5 a6 h6 a7 h7 a8 h8 a9 h9 hc0 hc1 x0 x1 x2 x3 x4 m s v
        = sNext x0 x1 x2 m s
      ∧ sout0_B_2 c i a1 h1 a2 h2 a3 h3 a4 h4 a5 h5 a6 h6 a7 h7 a8 h8 a9 h9 hc0 hc1 x0 x1 x2 x3 x4 m s v
        = vNext x0 x1 x2 m v := by
  refine ⟨(View.read_writes_eq_canon _ _ _ (scover0_B_0 c i a1 h1 a2 h2 a3 h3 a4 h4 a5 h5 a6 h6 a7 h7 a8 h8 a9 h9 hc0 hc1 x0 x1 x2 x3 x4 m s v)).trans ?_,
    (View.read_writes_eq_canon _ _ _ (scover0_B_1 c i a1 h1 a2 h2 a3 h3 a4 h4 a5 h5 a6 h6 a7 h7 a8 h8 a9 h9 hc0 hc1 x0 x1 x2 x3 x4 m s v)).trans ?_,
    (View.read_writes_eq_canon _ _ _ (scover0_B_2 c i a1 h1 a2 h2 a3 h3 a4 h4 a5 h5 a6 h6 a7 h7 a8 h8 a9 h9 hc0 hc1 x0 x1 x2 x3 x4 m s v)).trans ?_⟩
  all_goals unfold kernelRun0_B
  all_goals dsimp only
  all_goals sl_unfold_words
  all_goals rw [View.canon_unit_zero zero2]
  all_goals try unfold mNext
  all_goals try unfold sNext
  all_goals try unfold vNext
  all_goals
    simp only [View.readAt_eq_ld, h1.read_unread, h2.read_unread, h3.read_unread, h4.read_unread, h5.read_unread,
      h7.read_unread, h8.read_unread, h9.read_unread, View.ld_unit_zero (S := S1x1x25000) zero3,
      View.ld_unit_zero (S := S25000x128) zero2, View.ld_unit_zero (S := S1x128) zero2,
      View.ld_unit_zero (S := S128x128) zero2, View.ld_unit_zero (S := S64x1) zero2, View.ld_unit_zero (S := S64x128) zero2,
      View.readCov_unit_zero (S := S64x1) _ zero2, View.readCov_unit_zero (S := S64x128) _ zero2]

/-- The last point steps from what the point before left, and writes the output of the state it leaves. -/
theorem left_C (hc0 : ¬cond0_0 i) (hc1 : cond0_1 i) :
    sout0_C_0 c i a1 h1 a2 h2 a3 h3 a4 h4 a5 h5 a6 h6 a7 h7 a8 h8 a9 h9 hc0 hc1 x0 x1 x2 x3 x4 m s v
        = mNext x0 x1 x2 m
      ∧ sout0_C_1 c i a1 h1 a2 h2 a3 h3 a4 h4 a5 h5 a6 h6 a7 h7 a8 h8 a9 h9 hc0 hc1 x0 x1 x2 x3 x4 m s v
        = sNext x0 x1 x2 m s
      ∧ sout0_C_2 c i a1 h1 a2 h2 a3 h3 a4 h4 a5 h5 a6 h6 a7 h7 a8 h8 a9 h9 hc0 hc1 x0 x1 x2 x3 x4 m s v
        = vNext x0 x1 x2 m v
      ∧ out0_C_5 c i a1 h1 a2 h2 a3 h3 a4 h4 a5 h5 a6 h6 a7 h7 a8 h8 a9 h9 hc0 hc1 x0 x1 x2 x3 x4 m s v
        = k0_pay6 (sNext x0 x1 x2 m s) (vNext x0 x1 x2 m v) x3 x4 := by
  refine ⟨(View.read_writes_eq_canon _ _ _ (scover0_C_0 c i a1 h1 a2 h2 a3 h3 a4 h4 a5 h5 a6 h6 a7 h7 a8 h8 a9 h9 hc0 hc1 x0 x1 x2 x3 x4 m s v)).trans ?_,
    (View.read_writes_eq_canon _ _ _ (scover0_C_1 c i a1 h1 a2 h2 a3 h3 a4 h4 a5 h5 a6 h6 a7 h7 a8 h8 a9 h9 hc0 hc1 x0 x1 x2 x3 x4 m s v)).trans ?_,
    (View.read_writes_eq_canon _ _ _ (scover0_C_2 c i a1 h1 a2 h2 a3 h3 a4 h4 a5 h5 a6 h6 a7 h7 a8 h8 a9 h9 hc0 hc1 x0 x1 x2 x3 x4 m s v)).trans ?_,
    (View.read_writes_eq_canon _ _ _ (cover0_C_5 c i a1 h1 a2 h2 a3 h3 a4 h4 a5 h5 a6 h6 a7 h7 a8 h8 a9 h9 hc0 hc1 x0 x1 x2 x3 x4 m s v)).trans ?_⟩
  all_goals unfold kernelRun0_C
  all_goals dsimp only
  all_goals sl_unfold_words
  all_goals rw [View.canon_unit_zero zero2]
  all_goals try unfold mNext
  all_goals try unfold sNext
  all_goals try unfold vNext
  all_goals
    simp only [View.readAt_eq_ld, h1.read_unread, h2.read_unread, h3.read_unread, h4.read_unread, h5.read_unread,
      h7.read_unread, h8.read_unread, h9.read_unread, View.ld_unit_zero (S := S1x1x25000) zero3,
      View.ld_unit_zero (S := S25000x128) zero2, View.ld_unit_zero (S := S1x128) zero2,
      View.ld_unit_zero (S := S128x128) zero2, View.ld_unit_zero (S := S64x1) zero2, View.ld_unit_zero (S := S64x128) zero2,
      View.readCov_unit_zero (S := S64x1) _ zero2, View.readCov_unit_zero (S := S64x128) _ zero2]

end Cert.KernelIdeal.Point

end
-- ==== Proof.Operand.lean ====
/- What the blocks of a grid point hold, read off the arguments: the point's 25000 graph numbers and node rows, and the
   gate row, feature matrix and bias row, which every point sees whole. -/
module

public import proofs.«01_k».proof.Proof.Gen.KernelIdeal.Frame
public import Idealize.ShloMosaic.Lib.Pointwise
public import Idealize.ShloMosaic.Lib.Claim
public import Idealize.ShloMosaic.Lib.Pipeline.ValueKit.Point

@[expose] public section

set_option maxRecDepth 16384

noncomputable section

namespace Cert.KernelIdeal.Operand

open Idealize.ShloMosaic Idealize.SL.Sem Cert.KernelIdeal Cert.KernelIdeal.Gen

variable (m : (ℓ : Loc nD τ sig) → Buf (Elt Ideal) ℓ) (c : Dev nD)

/-- Where each window's block sits at each point. -/
theorem index_at : ∀ t : Fin cfg0.N, win0_0.index t = ![t.val, 0, 0] ∧ win0_1.index t = ![t.val, 0] ∧ win0_2.index t = ![0, 0]
    ∧ win0_3.index t = ![0, 0] ∧ win0_4.index t = ![0, 0] := by decide +kernel

/-- The number, among all nodes, of node `r` of point `t`'s block. -/
def node (t : Fin cfg0.N) (r : Fin 25000) : Fin 100000 :=
  ⟨25000 * t.val + r.val, by have h := t.isLt; have hN : cfg0.N = 4 := N_0; have := r.isLt; omega⟩

theorem ids_at (t : Fin cfg0.N) (r : Fin 25000) :
    iblk m c 0 t (ix3 0 0 r) = m ((c.tc : Thread nD τ).loc main_arg1) (ix1 (node t r)) := by
  blk_ext! [iblk, V, (index_at t).1, node]

theorem rows_at (t : Fin cfg0.N) (r : Fin 25000) (k : Fin 128) :
    iblk m c 1 t (ix2 r k) = m ((c.tc : Thread nD τ).loc main_arg0) (ix2 (node t r) k) := by
  blk_ext! [iblk, V, (index_at t).2.1, node]

theorem gateRow_at (t : Fin cfg0.N) (k : Fin 128) :
    iblk m c 2 t (ix2 0 k) = m ((c.tc : Thread nD τ).loc main_arg2) (ix2 k 0) := by
  blk_ext! [iblk, V, (index_at t).2.2.1]

theorem feature_at (t : Fin cfg0.N) (k d : Fin 128) :
    iblk m c 3 t (ix2 k d) = m ((c.tc : Thread nD τ).loc main_arg3) (ix2 k d) := by
  blk_ext! [iblk, V, (index_at t).2.2.2.1]

theorem bias_at (t : Fin cfg0.N) (d : Fin 128) :
    iblk m c 4 t (ix2 0 d) = m ((c.tc : Thread nD τ).loc main_arg4) (ix1 d) := by
  blk_ext! [iblk, V, (index_at t).2.2.2.2]

end Cert.KernelIdeal.Operand

end
-- ==== Proof.Graph.lean ====
/- The problem's data: which nodes form a graph, and a node's gate. -/
module

public import proofs.«01_k».proof.Proof.Math

@[expose] public section

noncomputable section

open scoped BigOperators

namespace Cert.Pool

/-- The nodes of graph `b`, the nodes' graph numbers given. -/
def members (ids : Fin 100000 → BitVec 32) (b : Fin 64) : Finset (Fin 100000) :=
  Finset.univ.filter fun n => (ids n).toNat = b.val

/-- The gate of a node: its row times the gate weights. -/
def gate (F : Fin 100000 → Fin 128 → ℝ) (wg : Fin 128 → ℝ) (n : Fin 100000) : ℝ := ∑ k, F n k * wg k

end Cert.Pool

end
-- ==== Proof.Nodes.lean ====
/- One block's part of one graph, in real numbers: the total weight and the weighted feature sums that a grid point
   computes for a graph are those of the graph's nodes in the point's block. -/
module

public import proofs.«01_k».proof.Proof.Block
public import proofs.«01_k».proof.Proof.Operand
public import proofs.«01_k».proof.Proof.Graph

@[expose] public section

set_option maxRecDepth 16384

noncomputable section

open scoped BigOperators

namespace Cert.KernelIdeal.Nodes

open Idealize.ShloMosaic Idealize.SL.Sem Cert.KernelIdeal Cert.KernelIdeal.Gen Cert.KernelIdeal.Block Cert.KernelIdeal.Operand
open Cert.Pool

variable (ids : Fin 100000 → BitVec 32)

/-- The nodes of graph `b` in the first `k` blocks. -/
def before (k : ℕ) (b : Fin 64) : Finset (Fin 100000) :=
  Finset.univ.filter fun n => n.val < 25000 * k ∧ (ids n).toNat = b.val

theorem node_injective (t : Fin cfg0.N) : Function.Injective (node t) := fun r r' h =>
  Fin.ext (by have := congrArg Fin.val h; simp only [node] at this; omega)

/-- The nodes of graph `b` in the block of point `t`. -/
def inBlock (t : Fin cfg0.N) (b : Fin 64) : Finset (Fin 100000) :=
  (Finset.univ.filter fun r : Fin 25000 => (ids (node t r)).toNat = b.val).map
    ⟨node t, node_injective t⟩

theorem mem_inBlock (t : Fin cfg0.N) (b : Fin 64) (n : Fin 100000) :
    n ∈ inBlock ids t b ↔ (25000 * t.val ≤ n.val ∧ n.val < 25000 * (t.val + 1)) ∧ (ids n).toNat = b.val := by
  simp only [inBlock, Finset.mem_map, Finset.mem_filter, Finset.mem_univ, true_and, Function.Embedding.coeFn_mk]
  constructor
  · rintro ⟨r, hr, rfl⟩
    have := r.isLt
    exact ⟨by simp only [node]; omega, hr⟩
  · rintro ⟨⟨h1, h2⟩, h⟩
    have e : node t ⟨n.val - 25000 * t.val, by omega⟩ = n := Fin.ext (by simp only [node]; omega)
    exact ⟨⟨n.val - 25000 * t.val, by omega⟩, by rw [e]; exact h, e⟩

theorem before_zero (b : Fin 64) : before ids 0 b = ∅ :=
  Finset.filter_eq_empty_iff.mpr fun n _ h => by have := h.1; omega

theorem before_succ (t : Fin cfg0.N) (b : Fin 64) : before ids (t.val + 1) b = before ids t.val b ∪ inBlock ids t b := by
  ext n
  rw [Finset.mem_union, mem_inBlock]
  simp only [before, Finset.mem_filter, Finset.mem_univ, true_and]
  constructor
  · rintro ⟨h1, h2⟩
    by_cases h : n.val < 25000 * t.val
    · exact Or.inl ⟨h, h2⟩
    · exact Or.inr ⟨⟨by omega, h1⟩, h2⟩
  · rintro (⟨h1, h2⟩ | ⟨⟨_, h1⟩, h2⟩)
    · exact ⟨by omega, h2⟩
    · exact ⟨h1, h2⟩

theorem before_disjoint (t : Fin cfg0.N) (b : Fin 64) : Disjoint (before ids t.val b) (inBlock ids t b) := by
  rw [Finset.disjoint_left]
  intro n h h'
  rw [mem_inBlock] at h'
  have := (Finset.mem_filter.mp h).2.1
  omega

/-- After the four blocks every node of the graph has been met. -/
theorem before_all (b : Fin 64) : before ids 4 b = members ids b := by
  ext n
  have := n.isLt
  simp only [before, members, Finset.mem_filter, Finset.mem_univ, true_and]
  omega

variable (m : (ℓ : Loc nD τ sig) → Buf (Elt Ideal) ℓ) (c : Dev nD)
  (F : Fin 100000 → Fin 128 → ℝ) (wg : Fin 128 → ℝ)
  (hid : ∀ n, (m ((c.tc : Thread nD τ).loc main_arg1) (ix1 n)).toNat < 64)
  (hF : ∀ n k, m ((c.tc : Thread nD τ).loc main_arg0) (ix2 n k) = (F n k : EReal))
  (hwg : ∀ k, m ((c.tc : Thread nD τ).loc main_arg2) (ix2 k 0) = (wg k : EReal))

include hF hwg in
/-- The gates a block computes are its nodes' gates. -/
theorem gate_block (t : Fin cfg0.N) (r : Fin 25000) :
    k0_pay11 (iblk m c 1 t) (iblk m c 2 t) (ix2 0 r) = (gate F wg (node t r) : EReal) := by
  rw [gate_at, gate, coe_sum]
  refine Finset.sum_congr rfl fun k _ => ?_
  rw [gateRow_at, rows_at, hF, hwg, EReal.coe_mul, mul_comm]

include hid hF hwg in
/-- The weight a block computes for a node of its own: measured from the block's level where the node is the graph's. -/
theorem weight_block (t : Fin cfg0.N) (L : ℝ) (hL : k0_pay12 (iblk m c 1 t) (iblk m c 2 t) = (L : EReal)) (b : Fin 64)
    (r : Fin 25000) : k0_pay13 (iblk m c 1 t) (iblk m c 0 t) (iblk m c 2 t) (ix2 b r)
      = if (m ((c.tc : Thread nD τ).loc main_arg1) (ix1 (node t r))).toNat = b.val
          then (Real.exp (gate F wg (node t r) - L) : EReal) else 0 := by
  rw [weight_at _ _ _ (fun r => by rw [ids_at]; exact hid _), ids_at, gate_block m c F wg hF hwg, hL, ← EReal.coe_sub,
    Ideal.exp_coe]

include hid hF hwg in
/-- The total weight and the weighted sums a block computes for a graph are those of the graph's nodes in the block,
    measured from the block's level. -/
theorem sums_block (t : Fin cfg0.N) : ∃ L : ℝ, k0_pay12 (iblk m c 1 t) (iblk m c 2 t) = (L : EReal)
    ∧ ∀ b : Fin 64,
      k0_pay14 (iblk m c 1 t) (iblk m c 0 t) (iblk m c 2 t) (ix2 b 0)
          = (mass (inBlock (fun n => m ((c.tc : Thread nD τ).loc main_arg1) (ix1 n)) t b) (gate F wg) L : EReal)
      ∧ ∀ d : Fin 128, ∑ r : Fin 25000, k0_pay13 (iblk m c 1 t) (iblk m c 0 t) (iblk m c 2 t) (ix2 b r) * iblk m c 1 t (ix2 r d)
          = (moment (inBlock (fun n => m ((c.tc : Thread nD τ).loc main_arg1) (ix1 n)) t b) (gate F wg) (F · d) L : EReal) := by
  obtain ⟨L, hL⟩ := level_real (iblk m c 1 t) (iblk m c 2 t) fun r => ⟨_, gate_block m c F wg hF hwg t r⟩
  refine ⟨L, hL, fun b => ⟨?_, fun d => ?_⟩⟩
  · rw [blockMass_at, mass, inBlock, Finset.sum_map, Finset.sum_filter, coe_sum]
    refine Finset.sum_congr rfl fun r _ => ?_
    rw [weight_block m c F wg hid hF hwg t L hL]
    split <;> rfl
  · rw [moment, inBlock, Finset.sum_map, Finset.sum_filter, coe_sum]
    refine Finset.sum_congr rfl fun r _ => ?_
    rw [weight_block m c F wg hid hF hwg t L hL, rows_at, hF]
    split
    · exact (EReal.coe_mul _ _).symm
    · exact zero_mul _

end Cert.KernelIdeal.Nodes

end
-- ==== Proof.Fold.lean ====
/- What the kernel's output array holds: the points' steps followed from first to last keep, for every graph, the running
   maximum, total weight and weighted sums of the nodes met so far; the last point divides and transforms them. -/
module

public import proofs.«01_k».proof.Proof.Gen.KernelIdeal.Value
public import proofs.«01_k».proof.Proof.Point
public import proofs.«01_k».proof.Proof.Nodes

@[expose] public section

set_option maxRecDepth 16384

noncomputable section

open scoped BigOperators

namespace Cert.KernelIdeal.Fold

open Idealize.ShloMosaic Idealize.SL.Sem Cert.KernelIdeal Cert.KernelIdeal.Gen Cert.KernelIdeal.Block Cert.KernelIdeal.Operand
open Cert.KernelIdeal.Nodes Cert.KernelIdeal.Value Cert.KernelIdeal.Point Cert.Pool

/-- What a point leaves: the output block, the maxima, the weights and the weighted sums. -/
abbrev Left : Type := Vec Ideal S64x128 .f32 × Vec Ideal S64x1 .f32 × Vec Ideal S64x1 .f32 × Vec Ideal S64x128 .f32

variable (m : (ℓ : Loc nD τ sig) → Buf (Elt Ideal) ℓ) (c : Dev nD)

/-- The first point steps from the empty state. -/
theorem left_first (t : Fin cfg0.N) (acc : Left) (h0 : t.val % 4 = 0) (h1 : ¬t.val % 4 = 3) :
    (stAt0 m c t.val t.isLt acc).2
      = (mNext (iblk m c 0 t) (iblk m c 1 t) (iblk m c 2 t) (k0_pay7 (F := Ideal)),
         sNext (iblk m c 0 t) (iblk m c 1 t) (iblk m c 2 t) (k0_pay7 (F := Ideal)) (k0_pay8 (F := Ideal)),
         vNext (iblk m c 0 t) (iblk m c 1 t) (iblk m c 2 t) (k0_pay7 (F := Ideal)) (k0_pay9 (F := Ideal))) := by
  rw [stAt0_A m c t acc h0 h1]
  have h := left_A c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (iblk m c 0 t) (iblk m c 1 t) (iblk m c 2 t) (iblk m c 3 t) (iblk m c 4 t)
    ((hcond0_0 t).mpr h0) (fun h => h1 ((hcond0_1 t).mp h))
  exact Prod.ext h.1 (Prod.ext h.2.1 h.2.2)

/-- A later point steps from what the point before left. -/
theorem left_later (t : Fin cfg0.N) (acc : Left) (h0 : ¬t.val % 4 = 0) :
    (stAt0 m c t.val t.isLt acc).2
      = (mNext (iblk m c 0 t) (iblk m c 1 t) (iblk m c 2 t) acc.2.1,
         sNext (iblk m c 0 t) (iblk m c 1 t) (iblk m c 2 t) acc.2.1 acc.2.2.1,
         vNext (iblk m c 0 t) (iblk m c 1 t) (iblk m c 2 t) acc.2.1 acc.2.2.2) := by
  by_cases h1 : t.val % 4 = 3
  · rw [stAt0_C m c t acc h0 h1]
    have h := left_C c (grid0.coords t) (ms0_0 t) (hs0_0 t) (ms0_1 t) (hs0_1 t) (ms0_2 t) (hs0_2 t) (ms0_3 t) (hs0_3 t) (ms0_4 t)
      (hs0_4 t) (ms0_5 t) (hs0_5 t) scM0_0 (Memref.isWhole_whole _) scM0_1 (Memref.isWhole_whole _) scM0_2 (Memref.isWhole_whole _)
      (iblk m c 0 t) (iblk m c 1 t) (iblk m c 2 t) (iblk m c 3 t) (iblk m c 4 t) acc.2.1 acc.2.2.1 acc.2.2.2
      (fun h => h0 ((hcond0_0 t).mp h)) ((hcond0_1 t).mpr h1)
    exact Prod.ext h.1 (Prod.ext h.2.1 h.2.2.1)
  · rw [stAt0_B m c t acc h0 h1]
    have h := left_B c (grid0.coords t) (ms0_0 t) (hs0_0 t) (ms0_1 t) (hs0_1 t) (ms0_2 t) (hs0_2 t) (ms0_3 t) (hs0_3 t) (ms0_4 t)
      (hs0_4 t) (ms0_5 t) (hs0_5 t) scM0_0 (Memref.isWhole_whole _) scM0_1 (Memref.isWhole_whole _) scM0_2 (Memref.isWhole_whole _)
      (iblk m c 0 t) (iblk m c 1 t) (iblk m c 2 t) (iblk m c 3 t) (iblk m c 4 t) acc.2.1 acc.2.2.1 acc.2.2.2
      (fun h => h0 ((hcond0_0 t).mp h)) (fun h => h1 ((hcond0_1 t).mp h))
    exact Prod.ext h.1 (Prod.ext h.2.1 h.2.2)

/-- The last point's output block is computed from the state it leaves itself. -/
theorem left_output (t : Fin cfg0.N) (acc : Left) (h0 : ¬t.val % 4 = 0) (h1 : t.val % 4 = 3) :
    (stAt0 m c t.val t.isLt acc).1
      = k0_pay6 (stAt0 m c t.val t.isLt acc).2.2.1 (stAt0 m c t.val t.isLt acc).2.2.2 (iblk m c 3 t) (iblk m c 4 t) := by
  rw [left_later m c t acc h0, stAt0_C m c t acc h0 h1]
  exact (left_C c (grid0.coords t) (ms0_0 t) (hs0_0 t) (ms0_1 t) (hs0_1 t) (ms0_2 t) (hs0_2 t) (ms0_3 t) (hs0_3 t) (ms0_4 t)
    (hs0_4 t) (ms0_5 t) (hs0_5 t) scM0_0 (Memref.isWhole_whole _) scM0_1 (Memref.isWhole_whole _) scM0_2 (Memref.isWhole_whole _)
    (iblk m c 0 t) (iblk m c 1 t) (iblk m c 2 t) (iblk m c 3 t) (iblk m c 4 t) acc.2.1 acc.2.2.1 acc.2.2.2
    (fun h => h0 ((hcond0_0 t).mp h)) ((hcond0_1 t).mpr h1)).2.2.2

/-- The graph numbers of the nodes. -/
abbrev idsOf (n : Fin 100000) : BitVec 32 := m ((c.tc : Thread nD τ).loc main_arg1) (ix1 n)

/-- A state is right after `k` blocks when, for every graph, it is what the graph's nodes of those blocks give. -/
def Right (F : Fin 100000 → Fin 128 → ℝ) (wg : Fin 128 → ℝ) (k : ℕ)
    (a : Vec Ideal S64x1 .f32 × Vec Ideal S64x1 .f32 × Vec Ideal S64x128 .f32) : Prop :=
  ∀ b : Fin 64, Gathered (before (idsOf m c) k b) (gate F wg) F (a.1 (ix2 b 0)) (a.2.1 (ix2 b 0)) fun d => a.2.2 (ix2 b d)

variable (F : Fin 100000 → Fin 128 → ℝ) (wg : Fin 128 → ℝ)
  (hid : ∀ n, (m ((c.tc : Thread nD τ).loc main_arg1) (ix1 n)).toNat < 64)
  (hF : ∀ n k, m ((c.tc : Thread nD τ).loc main_arg0) (ix2 n k) = (F n k : EReal))
  (hwg : ∀ k, m ((c.tc : Thread nD τ).loc main_arg2) (ix2 k 0) = (wg k : EReal))

/-- The empty state is right before the first block. -/
theorem right_empty : Right m c F wg 0 (k0_pay7 (F := Ideal), k0_pay8 (F := Ideal), k0_pay9 (F := Ideal)) := fun b =>
  Or.inl ⟨before_zero _ b, init_max_at b, init_mass_at b, fun d => init_sum_at b d⟩

include hid hF hwg in
/-- A point's step takes a right state to a right state. -/
theorem right_step (t : Fin cfg0.N) (a : Vec Ideal S64x1 .f32 × Vec Ideal S64x1 .f32 × Vec Ideal S64x128 .f32)
    (h : Right m c F wg t.val a) : Right m c F wg (t.val + 1)
      (mNext (iblk m c 0 t) (iblk m c 1 t) (iblk m c 2 t) a.1, sNext (iblk m c 0 t) (iblk m c 1 t) (iblk m c 2 t) a.1 a.2.1,
        vNext (iblk m c 0 t) (iblk m c 1 t) (iblk m c 2 t) a.1 a.2.2) := by
  intro b
  obtain ⟨L, hL, hsum⟩ := sums_block m c F wg hid hF hwg t
  have hg := gathered_step (before_disjoint (idsOf m c) t b) (h b) L (hsum b).1 (hsum b).2
  rw [← before_succ, ← hL] at hg
  dsimp only
  rw [mNext_at, sNext_at]
  simp only [vNext_at]
  exact hg

include hid hF hwg in
/-- After each point the state is right. -/
theorem right_fold (j : ℕ) (h : 0 + j < cfg0.N) :
    Right m c F wg (0 + j + 1) (Pipeline.accAt (fun n h => stAt0 m c n h junk0) (stAt0 m c) 0 j h).2 := by
  have hN : cfg0.N = 4 := N_0
  induction j with
  | zero =>
    rw [Pipeline.accAt_zero]
    have e := left_first m c ⟨0, h⟩ junk0 rfl (by decide : ¬ 0 % 4 = 3)
    dsimp only at e ⊢
    rw [e]
    exact right_step m c F wg hid hF hwg ⟨0, h⟩ (k0_pay7 (F := Ideal), k0_pay8 (F := Ideal), k0_pay9 (F := Ideal))
      (right_empty m c F wg)
  | succ j ih =>
    rw [Pipeline.accAt_succ]
    have e := left_later m c ⟨0 + (j + 1), h⟩ (Pipeline.accAt (fun n h => stAt0 m c n h junk0) (stAt0 m c) 0 j (Nat.lt_of_succ_lt h))
      (by dsimp only; omega)
    dsimp only at e
    rw [e]
    exact right_step m c F wg hid hF hwg ⟨0 + (j + 1), h⟩ _ (ih (Nat.lt_of_succ_lt h))

include hid hF hwg in
/-- THE OUTPUT ARRAY. For a graph that has a node there are a total weight and weighted feature sums, those gathered over
    all of the graph's nodes, whose quotients, transformed and shifted by the bias, are the graph's row. -/
theorem output_at (b : Fin 64) (d : Fin 128) (hne : (members (idsOf m c) b).Nonempty) :
    ∃ (M s : EReal) (v : Fin 128 → EReal), Gathered (members (idsOf m c) b) (gate F wg) F M s v
      ∧ G5 m c (ix2 b d) = (∑ k : Fin 128, Ideal.div (v k) s * m ((c.tc : Thread nD τ).loc main_arg3) (ix2 k d))
          + m ((c.tc : Thread nD τ).loc main_arg4) (ix1 d) := by
  have hlt : 0 + 3 < cfg0.N := lt_of_lt_of_eq (by decide) N_0.symm
  have hr := right_fold m c F wg hid hF hwg 3 hlt b
  rw [show 0 + 3 + 1 = 4 from rfl, before_all] at hr
  refine ⟨_, _, _, hr, ?_⟩
  have hpos : 0 < (Pipeline.accAt (fun n h => stAt0 m c n h junk0) (stAt0 m c) 0 3 hlt).2.2.1 (ix2 b 0) := by
    rcases hr with ⟨h, _⟩ | ⟨_, M, _, hs, _⟩
    · exact absurd h hne.ne_empty
    · rw [hs]; exact EReal.coe_pos.mpr (mass_pos hne _ M)
  have e := left_output m c ⟨0 + (2 + 1), hlt⟩
    (Pipeline.accAt (fun n h => stAt0 m c n h junk0) (stAt0 m c) 0 2 (Nat.lt_of_succ_lt hlt))
    (show ¬ (0 + (2 + 1)) % 4 = 0 by decide) (show (0 + (2 + 1)) % 4 = 3 by decide)
  dsimp only at e
  rw [← Pipeline.accAt_succ (fun n h => stAt0 m c n h junk0) (stAt0 m c) 0 2 hlt] at e
  rw [G5_last, e, out_at]
  simp only [if_pos hpos, feature_at, bias_at]

end Cert.KernelIdeal.Fold

end
-- ==== Proof.Lookup.lean ====
/- Sums over the nodes of a graph as the reference writes them: rows added into the rows that a column of numbers names. -/
module

public import Idealize.ShloMosaic.Lib.Pointwise
public import Idealize.ShloMosaic.Lib.Routing.OpsPair
public import Idealize.ShloMosaic.Lib.Routing.Ops
public import proofs.«01_k».proof.Proof.Math

@[expose] public section

set_option maxRecDepth 16384

noncomputable section

open scoped BigOperators

namespace Cert.Lookup

open Idealize.ShloMosaic

variable {N B n : ℕ} (D : ScatterDims ⟨2, ![N, B]⟩ ⟨2, ![n, 1]⟩ ⟨2, ![n, B]⟩) (huw : D.updateWindowDims = [1])
  (hiw : D.insertedWindowDims = [0]) (hsd : D.scatterDimsToOperandDims = [0]) (hiv : D.indexVectorDim = 1)
  (idx : IVec ⟨2, ![n, 1]⟩ 32)

include huw hiw hsd hiv in
/-- Entry `(r, y)` of the rows added lands in the row that entry `r` of the column names, in its own column. -/
theorem lands_row (r : Fin n) (y h : Fin B) (b : Fin N) :
    D.resultIdx? (ix2 r y) idx = some (ix2 b h) ↔ (idx (ix2 r 0)).toInt = (b.val : ℤ) ∧ y = h := by
  obtain ⟨uw, iw, sd, iv, wf⟩ := D
  dsimp only at huw hiw hsd hiv
  subst huw hiw hsd hiv
  rw [Routing.resultIdx?_eq_some]
  have s0 : ScatterDims.start ⟨[1], [0], [0], 1, wf⟩ (ix2 r y) idx 0 = (idx (ix2 r 0)).toInt := by
    unfold ScatterDims.start
    rw [dif_pos (List.mem_singleton.mpr rfl)]
    refine congrArg (fun i => (idx i).toInt) (funext fun a => Fin.ext ?_)
    match a with
    | ⟨0, _⟩ => rfl
    | ⟨1, _⟩ => rfl
  have s1 : ScatterDims.start ⟨[1], [0], [0], 1, wf⟩ (ix2 r y) idx 1 = 0 := by
    unfold ScatterDims.start
    exact dif_neg fun h => Nat.one_ne_zero (congrArg Fin.val (List.mem_singleton.mp h))
  have w0 : ScatterDims.window ⟨[1], [0], [0], 1, wf⟩ (ix2 r y) 0 = 0 := by
    unfold ScatterDims.window
    exact dif_neg fun h => (of_decide_eq_true (List.mem_filter.1 h).2) (List.mem_singleton.mpr rfl)
  have w1 : ScatterDims.window ⟨[1], [0], [0], 1, wf⟩ (ix2 r y) 1 = y.val := by
    unfold ScatterDims.window
    exact (dif_pos (List.mem_filter.2 ⟨List.mem_finRange _, decide_eq_true (show (1 : Fin 2) ∉ [0] by decide)⟩)).trans rfl
  constructor
  · intro e
    have e0 := e 0
    have e1 := e 1
    rw [s0, w0] at e0
    rw [s1, w1] at e1
    exact ⟨by rw [← add_zero (BitVec.toInt _)]; exact e0, Fin.ext (by have : ((0 : ℤ) + (y.val : ℤ)) = (h.val : ℤ) := e1; omega)⟩
  · rintro ⟨e, rfl⟩ a
    match a with
    | ⟨0, _⟩ =>
      show ScatterDims.start ⟨[1], [0], [0], 1, wf⟩ (ix2 r y) idx 0 + (ScatterDims.window ⟨[1], [0], [0], 1, wf⟩ (ix2 r y) 0 : ℤ) = b.val
      rw [s0, w0, e]; simp
    | ⟨1, _⟩ =>
      show ScatterDims.start ⟨[1], [0], [0], 1, wf⟩ (ix2 r y) idx 1 + (ScatterDims.window ⟨[1], [0], [0], 1, wf⟩ (ix2 r y) 1 : ℤ) = y.val
      rw [s1, w1]; simp

include huw hiw hsd hiv in
/-- Adding rows into the rows a column names: each entry is what was there plus the entries, in its column, of the rows
    that name its row. -/
theorem scatter_rows_at (x : FVec Ideal ⟨2, ![N, B]⟩ .f32) (upd : FVec Ideal ⟨2, ![n, B]⟩ .f32) (b : Fin N) (h : Fin B) :
    Host.scatterAdd D x idx upd (ix2 b h)
      = x (ix2 b h) + ∑ r ∈ Finset.univ.filter (fun r : Fin n => (idx (ix2 r 0)).toInt = (b.val : ℤ)), upd (ix2 r h) := by
  show x (ix2 b h) + ∑ j ∈ Finset.univ.filter (fun j => D.resultIdx? j idx = some (ix2 b h)), upd j = _
  congr 1
  rw [Finset.sum_filter, Finset.sum_filter, sum_idx2]
  refine Finset.sum_congr rfl fun r _ => ?_
  simp only [lands_row D huw hiw hsd hiv]
  by_cases e : (idx (ix2 r 0)).toInt = (b.val : ℤ)
  · simp [e]
  · simp [e]

end Cert.Lookup

end
-- ==== Proof.Reference.lean ====
/- What the reference computes, entry by entry: the rows of a graph's nodes, transformed and shifted by the bias, each at
   its softmax weight among the graph's gates, added up. -/
module

public import proofs.«01_k».proof.Proof.Gen.ReferenceIdeal.Run
public import proofs.«01_k».proof.Proof.Lookup
public import proofs.«01_k».proof.Proof.Graph

@[expose] public section

set_option maxRecDepth 16384

noncomputable section

open scoped BigOperators

namespace Cert.ReferenceIdeal.Pooled

open Idealize.ShloMosaic Idealize.SL.Sem Cert.ReferenceIdeal Cert.ReferenceIdeal.Gen Cert.Pool Cert.Lookup

variable (x : FVec Ideal S100000x128 .f32) (ids : IVec S100000 32) (wg : FVec Ideal S128x1 .f32)
  (W : FVec Ideal S128x128 .f32) (b : FVec Ideal S128 .f32)

/-- The gates, one a node. -/
def gates : FVec Ideal S100000x1 .f32 := Host.dotGeneral dot_S100000x128_S128x1_S100000x1_1_0_0_1_n_n none x wg

/-- The graph numbers as a column. -/
def column : IVec S100000x1 32 := broadcastInDim S100000x1 ![0] bcast_S100000_S100000x1_0 ids

/-- The graph numbers as a column, a negative one counted from the end. -/
def wrapped : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 64#32))) ids)

/-- The largest gate of each graph. -/
def levels (g : FVec Ideal S100000x1 .f32) : FVec Ideal S64x1 .f32 :=
  broadcastInDim S64x1 ![0] bcast_S64_S64x1_0
    (Host.reduce FloatOps.maximumf
      (select (cmpi .eq (broadcastInDim S100000x64 ![0, 1] bcast_S100000x1_S100000x64_0_1 (column ids))
          (broadcastInDim S100000x64 ![0, 1] bcast_S1x64_S100000x64_0_1
            (broadcastInDim S1x64 ![1] bcast_S64_S1x64_1 (iotaInDim S64 32 0))))
        (broadcastInDim S100000x64 ![0, 1] bcast_S100000x1_S100000x64_0_1 g)
        (broadcastInDim S100000x64 ![] bcast_S_S100000x64 (id (constant S_ .f32 0xFF800000#32))))
      (constant S_ .f32 0xFF800000#32) reducesTo_S100000x64_S64_d0 h_S_)

/-- The exponentials of the gates, each less its graph's largest. -/
def weights (g : FVec Ideal S100000x1 .f32) : FVec Ideal S100000x1 .f32 :=
  Host.exp (subf g (Host.gather gather_S64x1_S100000x1_S100000x1_1_0_n_n_0_1_11 (levels ids g) (wrapped ids)))

/-- The sums of the weights of each graph. -/
def totals (e : FVec Ideal S100000x1 .f32) : FVec Ideal S64x1 .f32 :=
  Host.scatterAdd scatter_S64x1_S100000x1_S100000x1_1_0_0_1
    (broadcastInDim S64x1 ![] bcast_S_S64x1 (constant S_ .f32 0x00000000#32)) (column ids) e

/-- The weights, each divided by its graph's sum. -/
def shares (e : FVec Ideal S100000x1 .f32) : FVec Ideal S100000x1 .f32 :=
  Host.divf e (Host.gather gather_S64x1_S100000x1_S100000x1_1_0_n_n_0_1_11 (totals ids e) (wrapped ids))

/-- The transformed rows, shifted by the bias. -/
def rows : FVec Ideal S100000x128 .f32 :=
  addf (Host.dotGeneral dot_S100000x128_S128x128_S100000x128_1_0_0_1_n_n none x W)
    (broadcastInDim S100000x128 ![0, 1] bcast_S1x128_S100000x128_0_1 (broadcastInDim S1x128 ![1] bcast_S128_S1x128_1 b))

/-- The reference's result. -/
def pooled : FVec Ideal S64x128 .f32 :=
  Host.scatterAdd scatter_S64x128_S100000x1_S100000x128_1_0_0_1
    (broadcastInDim S64x128 ![] bcast_S_S64x128 (constant S_ .f32 0x00000000#32)) (column ids)
    (mulf (rows x W b) (broadcastInDim S100000x128 ![0, 1] bcast_S100000x1_S100000x128_0_1
      (shares ids (weights ids (gates x wg)))))

theorem gates_at (n : Fin 100000) : gates x wg (ix2 n 0) = ∑ k : Fin 128, x (ix2 n k) * wg (ix2 k 0) := by
  pointwise [gates]

theorem rows_at (n : Fin 100000) (h : Fin 128) :
    rows x W b (ix2 n h) = (∑ k : Fin 128, x (ix2 n k) * W (ix2 k h)) + b (ix1 h) := by
  pointwise [rows]

theorem column_at (n : Fin 100000) : column ids (ix2 n 0) = ids (ix1 n) := by
  pointwise [column]

theorem wrapped_at (n : Fin 100000) (hn : (ids (ix1 n)).toNat < 64) : wrapped ids (ix2 n 0) = ids (ix1 n) := by
  have e : wrapped ids (ix2 n 0)
      = Scalar.select (IntOp.cmpi .slt (ids (ix1 n)) 0#32) (IntOp.addi (ids (ix1 n)) 64#32) (ids (ix1 n)) := by
    pointwise [wrapped]
  rw [e, Routing.wrap_of_lt _ _ (lt_trans hn (by decide))]

/-- The signed reading of a graph number below 64. -/
theorem toInt_eq {v : BitVec 32} (hv : v.toNat < 64) (b : Fin 64) : v.toInt = (b.val : ℤ) ↔ v.toNat = b.val := by
  rw [BitVec.toInt_eq_toNat_of_lt (by omega)]
  exact Int.ofNat_inj

/-- A graph number below 64 is the word of its value. -/
theorem word_of {v : BitVec 32} {b : Fin 64} (h : v.toNat = b.val) : v = BitVec.ofNat 32 b.val := by
  rw [← h, BitVec.ofNat_toNat, BitVec.setWidth_eq]

variable (hid : ∀ n, (ids (ix1 n)).toNat < 64)

/-- Looking a node's graph up in a column of 64 numbers. -/
theorem gather_at (v : FVec Ideal S64x1 .f32) (n : Fin 100000) (b : Fin 64) (h : (ids (ix1 n)).toNat = b.val) :
    Host.gather gather_S64x1_S100000x1_S100000x1_1_0_n_n_0_1_11 v (wrapped ids) (ix2 n 0) = v (ix2 b 0) :=
  Routing.gather_row gather_S64x1_S100000x1_S100000x1_1_0_n_n_0_1_11 rfl rfl rfl rfl rfl v (wrapped ids) n 0 b
    ((wrapped_at ids n (by rw [h]; exact b.isLt)).trans (word_of h)) (by decide)

/-- The maximum, from minus infinity, of finitely many values each a real or minus infinity, one of them a real, is a real. -/
theorem fold_max_some {κ : Type} [Fintype κ] (y : κ → EReal) (hy : ∀ k, y k = ⊥ ∨ ∃ r : ℝ, y k = r)
    (hs : ∃ k, ∃ r : ℝ, y k = r) : ∃ r : ℝ, Finset.fold max ⊥ y Finset.univ = r := by
  obtain ⟨k, r, hk⟩ := hs
  change ∃ r : ℝ, Finset.univ.sup y = r
  obtain ⟨i, _, hi⟩ := Finset.exists_mem_eq_sup Finset.univ ⟨k, Finset.mem_univ k⟩ y
  rcases hy i with h | h
  · have := Finset.le_sup (f := y) (Finset.mem_univ k)
    rw [hi, h, hk] at this
    exact absurd (le_bot_iff.mp this) (EReal.coe_ne_bot r)
  · rw [hi]; exact h

theorem levels_at (g : FVec Ideal S100000x1 .f32) (b : Fin 64) : levels ids g (ix2 b 0)
    = Finset.fold max ⊥ (fun n : Fin 100000 => if ids (ix1 n) = BitVec.ofNat 32 b.val then g (ix2 n 0) else ⊥) Finset.univ := by
  have hbot : Ideal.ofBits .f32 0xFF800000#32 = ⊥ := by simp [Ideal.ofBits, Ideal.ieee]
  rw [← hbot]
  pointwise [levels, column]
  refine Finset.fold_congr fun n _ => ?_
  by_cases h : ids (ix1 n) = BitVec.ofNat 32 b.val
  · rw [if_pos h, IntOp.cmpi_eq.mpr h]; rfl
  · rw [if_neg h, ValueIdx.eq_zero_of_ne_one (fun e => h (IntOp.cmpi_eq.mp e))]; rfl

variable (F : Fin 100000 → Fin 128 → ℝ) (gw : Fin 128 → ℝ)
  (hF : ∀ n k, x (ix2 n k) = (F n k : EReal)) (hgw : ∀ k, wg (ix2 k 0) = (gw k : EReal))

include hF hgw in
theorem gates_real (n : Fin 100000) : gates x wg (ix2 n 0) = (gate F gw n : EReal) := by
  rw [gates_at, gate, coe_sum]
  exact Finset.sum_congr rfl fun k _ => by rw [hF, hgw, EReal.coe_mul]

include hid hF hgw in
/-- The largest gate of a graph that has a node is a real number. -/
theorem level_real (b : Fin 64) (hne : (members (fun n => ids (ix1 n)) b).Nonempty) :
    ∃ L : ℝ, levels ids (gates x wg) (ix2 b 0) = L := by
  rw [levels_at]
  refine fold_max_some _ (fun n => ?_) ?_
  · split
    · exact Or.inr ⟨_, gates_real x wg F gw hF hgw n⟩
    · exact Or.inl rfl
  · obtain ⟨n, hn⟩ := hne
    have h : (ids (ix1 n)).toNat = b.val := (Finset.mem_filter.mp hn).2
    exact ⟨n, _, (if_pos (word_of h)).trans (gates_real x wg F gw hF hgw n)⟩

include hid in
/-- The nodes whose graph number, read signed, is `b`. -/
theorem named_eq (b : Fin 64) :
    (Finset.univ.filter fun n : Fin 100000 => (column ids (ix2 n 0)).toInt = (b.val : ℤ)) = members (fun n => ids (ix1 n)) b :=
  Finset.filter_congr fun n _ => by rw [column_at]; exact toInt_eq (hid n) b

include hid hF hgw in
/-- The weight of a node of graph `b`, `L` the graph's largest gate. -/
theorem weights_at (b : Fin 64) (L : ℝ) (hL : levels ids (gates x wg) (ix2 b 0) = L) (n : Fin 100000)
    (hn : n ∈ members (fun n => ids (ix1 n)) b) :
    weights ids (gates x wg) (ix2 n 0) = (Real.exp (gate F gw n - L) : EReal) := by
  have e : weights ids (gates x wg) (ix2 n 0) = Ideal.exp (gates x wg (ix2 n 0)
      - Host.gather gather_S64x1_S100000x1_S100000x1_1_0_n_n_0_1_11 (levels ids (gates x wg)) (wrapped ids) (ix2 n 0)) := rfl
  rw [e, gather_at ids _ n b (Finset.mem_filter.mp hn).2, hL, gates_real x wg F gw hF hgw, ← EReal.coe_sub, Ideal.exp_coe]

theorem quotient_at {s : Shape} (a d : FVec Ideal s .f32) (i : s.Idx) : Host.divf a d i = Ideal.div (a i) (d i) := rfl

theorem shares_at (e : FVec Ideal S100000x1 .f32) (n : Fin 100000) : shares ids e (ix2 n 0) = Ideal.div (e (ix2 n 0))
    (Host.gather gather_S64x1_S100000x1_S100000x1_1_0_n_n_0_1_11 (totals ids e) (wrapped ids) (ix2 n 0)) := by
  rw [shares, quotient_at]

include hid hF hgw in
/-- The sum of a graph's weights. -/
theorem totals_at (b : Fin 64) (L : ℝ) (hL : levels ids (gates x wg) (ix2 b 0) = L) :
    totals ids (weights ids (gates x wg)) (ix2 b 0) = (mass (members (fun n => ids (ix1 n)) b) (gate F gw) L : EReal) := by
  rw [totals, scatter_rows_at _ rfl rfl rfl rfl, named_eq ids hid, mass, coe_sum]
  have z : (broadcastInDim S64x1 ![] bcast_S_S64x1 (constant (F := Ideal) S_ .f32 0x00000000#32)) (ix2 b 0) = 0 := by pointwise
  rw [z, zero_add]
  exact Finset.sum_congr rfl fun n hn => weights_at x ids wg hid F gw hF hgw b L hL n hn

include hid hF hgw in
/-- THE RESULT. Entry `(b, h)`, graph `b` having a node: over the graph's nodes, column `h` of the transformed row, bias
    included, times the node's softmax weight measured from some level `L`. -/
theorem pooled_at (b' : Fin 64) (h : Fin 128) (hne : (members (fun n => ids (ix1 n)) b').Nonempty) :
    ∃ L : ℝ, pooled x ids wg W b (ix2 b' h)
      = ∑ n ∈ members (fun n => ids (ix1 n)) b', ((∑ k : Fin 128, x (ix2 n k) * W (ix2 k h)) + b (ix1 h))
          * Ideal.div (Real.exp (gate F gw n - L) : EReal) (mass (members (fun n => ids (ix1 n)) b') (gate F gw) L : EReal) := by
  obtain ⟨L, hL⟩ := level_real x ids wg hid F gw hF hgw b' hne
  refine ⟨L, ?_⟩
  rw [pooled, scatter_rows_at _ rfl rfl rfl rfl, named_eq ids hid]
  have z : (broadcastInDim S64x128 ![] bcast_S_S64x128 (constant (F := Ideal) S_ .f32 0x00000000#32)) (ix2 b' h) = 0 := by
    pointwise
  rw [z, zero_add]
  refine Finset.sum_congr rfl fun n hn => ?_
  have e : mulf (rows x W b) (broadcastInDim S100000x128 ![0, 1] bcast_S100000x1_S100000x128_0_1
      (shares ids (weights ids (gates x wg)))) (ix2 n h) = rows x W b (ix2 n h) * shares ids (weights ids (gates x wg)) (ix2 n 0) := by
    pointwise
  rw [e, rows_at, shares_at, gather_at ids _ n b' (Finset.mem_filter.mp hn).2, totals_at x ids wg hid F gw hF hgw b' L hL,
    weights_at x ids wg hid F gw hF hgw b' L hL n hn]

end Cert.ReferenceIdeal.Pooled

end
-- ==== Proof.Pre.lean ====
/- What the precondition says: the node rows, the gate weights and the feature weights are finite, every graph number is
   below 64, and every graph has a node. -/
module

public import proofs.«01_k».proof.Proof.Gen.Pre_well_posed
public import Idealize.ShloMosaic.Lib.Pointwise
public import Idealize.ShloMosaic.Lib.Affine
public import Idealize.ShloMosaic.Lib.ReduceAll
public import Idealize.ShloMosaic.Lib.Routing.OpsOrder
public import Idealize.ShloMosaic.PureOps.Ideal.Laws
public import proofs.«01_k».proof.Proof.Graph

@[expose] public section

set_option maxRecDepth 16384

noncomputable section

namespace Cert.Pre_well_posed.Read

open Idealize.ShloMosaic Cert.Pre_well_posed Cert.Pre_well_posed.Gen

/-- A number whose absolute value is below plus infinity is real. -/
theorem real_of_abs {y : EReal} (h : Ideal.cmp .olt (max y (-y)) (Ideal.ofBits .f32 0x7F800000#32) = 1#1) :
    ∃ r : ℝ, y = r := by
  have htop : Ideal.ofBits .f32 0x7F800000#32 = ⊤ := by simp [Ideal.ofBits, Ideal.ieee]
  rw [htop] at h
  have hlt : max y (-y) < ⊤ := by
    by_contra hn
    rw [show Ideal.cmp .olt (max y (-y)) ⊤ = BitVec.ofBool (decide (max y (-y) < ⊤)) from rfl, decide_eq_false hn] at h
    exact absurd h (by decide)
  induction y using EReal.rec with
  | bot => simp at hlt
  | top => simp at hlt
  | coe r => exact ⟨r, rfl⟩

/-- A word that is at least 0 and less than 64, read signed, is below 64. -/
theorem below {v : BitVec 32} (h : IntOp.andi (IntOp.cmpi .sge v 0#32) (IntOp.cmpi .slt v 64#32) = 1#1) : v.toNat < 64 := by
  obtain ⟨h0, h1⟩ := IntOp.andi_eq_one.mp h
  rw [IntOp.cmpi_sge] at h0
  rw [IntOp.cmpi_slt] at h1
  have e0 : (0#32 : BitVec 32).toInt = 0 := by decide
  have e1 : (64#32 : BitVec 32).toInt = 64 := by decide
  rw [e0] at h0
  rw [e1] at h1
  have := v.isLt
  rw [BitVec.toInt_eq_toNat_cond] at h0 h1
  split at h0 <;> omega

variable (x : FVec Ideal S100000x128 .f32) (ids : IVec S100000 32) (wg : FVec Ideal S128x1 .f32)
  (W : FVec Ideal S128x128 .f32) (b : FVec Ideal S128 .f32)

/-- The precondition, read entry by entry. -/
theorem read (h : fn (F := Ideal) x ids wg W b = fun _ => 1#1) :
    (∀ n k, ∃ r : ℝ, x (ix2 n k) = r) ∧ (∀ k, ∃ r : ℝ, wg (ix2 k 0) = r) ∧ (∀ k d, ∃ r : ℝ, W (ix2 k d) = r)
      ∧ (∀ n, (ids (ix1 n)).toNat < 64) ∧ ∀ g : Fin 64, ∃ n, (ids (ix1 n)).toNat = g.val := by
  haveI : Subsingleton S_.Idx := ⟨fun a b => funext fun k => k.elim0⟩
  have h1 := congrFun h ix0
  simp only [fn, fn_part1] at h1
  obtain ⟨h2, hall⟩ := IntOp.andi_eq_one.mp h1
  obtain ⟨h3, hin⟩ := IntOp.andi_eq_one.mp h2
  obtain ⟨h4, hW⟩ := IntOp.andi_eq_one.mp h3
  obtain ⟨hx, hg⟩ := IntOp.andi_eq_one.mp h4
  refine ⟨fun n k => real_of_abs ?_, fun k => real_of_abs ?_, fun k d => real_of_abs ?_, fun n => below ?_, fun g => ?_⟩
  · exact Host.reduce_andi_all _ _ _ _ _ hx (ix2 n k)
  · exact Host.reduce_andi_all _ _ _ _ _ hg (ix2 k 0)
  · exact Host.reduce_andi_all _ _ _ _ _ hW (ix2 k d)
  · exact Host.reduce_andi_all _ _ _ _ _ hin (ix1 n)
  · have hs := Host.reduce_andi_all _ _ _ _ _ hall (ix1 g)
    pointwise at hs
    obtain ⟨n, _, hn⟩ := (Routing.fold_ori _ _).mp hs
    rw [IntOp.cmpi_eq] at hn
    refine ⟨n, ?_⟩
    rw [hn, BitVec.toNat_ofNat]
    have := g.isLt
    omega

end Cert.Pre_well_posed.Read

end
-- ==== Proof.Equation.lean ====
/- The equation: on arguments the precondition admits, the kernel's output array is the reference's result. -/
module

public import proofs.«01_k».proof.Proof.Fold
public import proofs.«01_k».proof.Proof.Reference
public import proofs.«01_k».proof.Proof.Pre

@[expose] public section

set_option maxRecDepth 16384

noncomputable section

open scoped BigOperators

namespace Cert.Equation

open Idealize.ShloMosaic Idealize.SL.Sem Cert.KernelIdeal Cert.KernelIdeal.Gen Cert.Pool

/-- Entry by entry: both sides are the bias-shifted transformed rows of the graph's nodes at their softmax weights. -/
theorem output_eq (m : (ℓ : Loc nD τ sig) → Buf (Elt Ideal) ℓ) (c : Dev nD)
    (h : Cert.Pre_well_posed.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
        = fun _ => 1#1) :
    Cert.ReferenceIdeal.Pooled.pooled (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      = Cert.KernelIdeal.Value.G5 m c := by
  obtain ⟨hx, hg, hW, hid, hall⟩ := Cert.Pre_well_posed.Read.read _ _ _ _ _ h
  choose F hF using hx
  choose wg hwg using hg
  choose W hW using hW
  funext i
  obtain ⟨b, d, rfl⟩ : ∃ (b : Fin 64) (d : Fin 128), i = ix2 b d := ⟨i 0, i 1, (ix2_eta i).symm⟩
  obtain ⟨n, hn⟩ := hall b
  have hne : (members (Fold.idsOf m c) b).Nonempty := ⟨n, Finset.mem_filter.mpr ⟨Finset.mem_univ n, hn⟩⟩
  obtain ⟨L, hL⟩ := Cert.ReferenceIdeal.Pooled.pooled_at _ _ _ (m ((c.tc : Thread nD τ).loc main_arg3))
    (m ((c.tc : Thread nD τ).loc main_arg4)) hid F wg hF hwg b d hne
  obtain ⟨M, s, v, hv, hG⟩ := Fold.output_at m c F wg hid hF hwg b d hne
  rw [hL, hG]
  simp only [hW]
  rw [pooled_eq hne hv (fun k => W k d) _ L]
  refine Finset.sum_congr rfl fun n _ => ?_
  rw [coe_sum]
  simp only [hF, EReal.coe_mul]

end Cert.Equation

end
-- ==== Proof.lean ====
/- The proof of the claims. Each program's run is the generated one. The kernel's result is equal to the reference's:
   proof/Proof/Block.lean says what one grid point computes, Point.lean what it leaves, Operand.lean what its blocks hold,
   Nodes.lean what it computes for one graph, Fold.lean what the output array holds after the last point, Lookup.lean and
   Reference.lean what the reference computes, Pre.lean what the precondition gives, Math.lean and Graph.lean the
   mathematics, and Equation.lean puts the two results side by side. Each frame claim is the program's generated frame, or
   the reference's run weakened: it declares no semaphore. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Pre_well_posed
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments as they were, and ends with every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference end with the same result. -/
theorem algebraic_KernelIdeal_ReferenceIdeal : algebraic_KernelIdeal_ReferenceIdeal_pre_well_posed := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨e0, e1, e2, e3, e4⟩ := hagree c
  rw [(h c).1, e0, e1, e2, e3, e4]
  exact Cert.Equation.output_eq m c (hpre c)

/-- All the claims. -/
theorem claim : Cert.Claim := ⟨Cert.Kernel.Gen.facts, Cert.KernelIdeal.Gen.facts, Cert.ReferenceIdeal.Gen.facts, Cert.Pre_well_posed.Gen.facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic_KernelIdeal_ReferenceIdeal⟩

end Cert.Proof

end
